-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x2560 : Shape := ⟨3, ![2, 1536, 2560]⟩
abbrev S5120x2560 : Shape := ⟨2, ![5120, 2560]⟩
abbrev S5120 : Shape := ⟨1, ![5120]⟩
abbrev S_ : Shape := ⟨0, ![]⟩
abbrev S1 : Shape := ⟨1, ![1]⟩
abbrev S3072x2560 : Shape := ⟨2, ![3072, 2560]⟩
abbrev S1x5120 : Shape := ⟨2, ![1, 5120]⟩
abbrev S3072x5120 : Shape := ⟨2, ![3072, 5120]⟩
abbrev S1536x2560 : Shape := ⟨2, ![1536, 2560]⟩
abbrev S512x2560 : Shape := ⟨2, ![512, 2560]⟩
abbrev S1x512 : Shape := ⟨2, ![1, 512]⟩
abbrev S1536x512 : Shape := ⟨2, ![1536, 512]⟩
abbrev S2x1536x5120 : Shape := ⟨3, ![2, 1536, 5120]⟩

abbrev nBuf : Space → Nat
  | .hbm => 13
  | .vmem => 12
  | .smem => 1
  | _ => 0

abbrev bufTy : (tb : Table) → Fin (tcTables nBuf tb) → BufTy
  | .hbm, ⟨0, _⟩ => ⟨S2x1536x2560, .bf16⟩
  | .hbm, ⟨1, _⟩ => ⟨S5120x2560, .fp8e4m3⟩
  | .hbm, ⟨2, _⟩ => ⟨S5120, .f32⟩
  | .hbm, ⟨3, _⟩ => ⟨S_, .f32⟩
  | .hbm, ⟨4, _⟩ => ⟨S5120, .bf16⟩
  | .hbm, ⟨5, _⟩ => ⟨S1, .f32⟩
  | .hbm, ⟨6, _⟩ => ⟨S3072x2560, .bf16⟩
  | .hbm, ⟨7, _⟩ => ⟨S1x5120, .f32⟩
  | .hbm, ⟨8, _⟩ => ⟨S1x5120, .bf16⟩
  | .hbm, ⟨9, _⟩ => ⟨S3072x5120, .bf16⟩
  | .hbm, ⟨10, _⟩ => ⟨S3072x2560, .fp8e4m3⟩
  | .hbm, ⟨11, _⟩ => ⟨S2x1536x5120, .bf16⟩
  | .hbm, ⟨12, _⟩ => ⟨S2x1536x2560, .fp8e4m3⟩
  | .local _ .vmem, ⟨0, _⟩ => ⟨S1536x2560, .bf16⟩
  | .local _ .vmem, ⟨1, _⟩ => ⟨S1536x2560, .bf16⟩
  | .local _ .vmem, ⟨2, _⟩ => ⟨S512x2560, .fp8e4m3⟩
  | .local _ .vmem, ⟨3, _⟩ => ⟨S512x2560, .fp8e4m3⟩
  | .local _ .vmem, ⟨4, _⟩ => ⟨S1x512, .f32⟩
  | .local _ .vmem, ⟨5, _⟩ => ⟨S1x512, .f32⟩
  | .local _ .vmem, ⟨6, _⟩ => ⟨S1x512, .bf16⟩
  | .local _ .vmem, ⟨7, _⟩ => ⟨S1x512, .bf16⟩
  | .local _ .vmem, ⟨8, _⟩ => ⟨S1536x512, .bf16⟩
  | .local _ .vmem, ⟨9, _⟩ => ⟨S1536x512, .bf16⟩
  | .local _ .vmem, ⟨10, _⟩ => ⟨S1536x2560, .fp8e4m3⟩
  | .local _ .vmem, ⟨11, _⟩ => ⟨S1536x2560, .fp8e4m3⟩
  | .local _ .smem, ⟨0, _⟩ => ⟨S1, .f32⟩
  | _, _ => ⟨S2x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 10], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1536x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x2560 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x1536x2560 : Shape := ⟨3, ![2, 1536, 2560]⟩
abbrev S5120x2560 : Shape := ⟨2, ![5120, 2560]⟩
abbrev S5120 : Shape := ⟨1, ![5120]⟩
abbrev S_ : Shape := ⟨0, ![]⟩
abbrev S1 : Shape := ⟨1, ![1]⟩
abbrev S2x1536x5120 : Shape := ⟨3, ![2, 1536, 5120]⟩
abbrev S1x1x1 : Shape := ⟨3, ![1, 1, 1]⟩
abbrev S1x1x5120 : Shape := ⟨3, ![1, 1, 5120]⟩

abbrev nBuf : Space → Nat
  | .hbm => 8
  | .vmem => 7
  | .smem => 0
  | _ => 0

abbrev bufTy : (tb : Table) → Fin (tcTables nBuf tb) → BufTy
  | .hbm, ⟨0, _⟩ => ⟨S2x1536x2560, .bf16⟩
  | .hbm, ⟨1, _⟩ => ⟨S5120x2560, .fp8e4m3⟩
  | .hbm, ⟨2, _⟩ => ⟨S5120, .f32⟩
  | .hbm, ⟨3, _⟩ => ⟨S_, .f32⟩
  | .hbm, ⟨4, _⟩ => ⟨S5120, .bf16⟩
  | .hbm, ⟨5, _⟩ => ⟨S1, .f32⟩
  | .hbm, ⟨6, _⟩ => ⟨S2x1536x5120, .bf16⟩
  | .hbm, ⟨7, _⟩ => ⟨S2x1536x2560, .fp8e4m3⟩
  | .local _ .vmem, ⟨0, _⟩ => ⟨S2x1536x2560, .bf16⟩
  | .local _ .vmem, ⟨1, _⟩ => ⟨S5120x2560, .fp8e4m3⟩
  | .local _ .vmem, ⟨2, _⟩ => ⟨S5120, .f32⟩
  | .local _ .vmem, ⟨3, _⟩ => ⟨S1, .f32⟩
  | .local _ .vmem, ⟨4, _⟩ => ⟨S5120, .bf16⟩
  | .local _ .vmem, ⟨5, _⟩ => ⟨S2x1536x5120, .bf16⟩
  | .local _ .vmem, ⟨6, _⟩ => ⟨S2x1536x2560, .fp8e4m3⟩
  | _, _ => ⟨S2x1536x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x1536x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1536x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBody.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

/-! The kernel body run once at each of its two cases: at the first column tile of a block of rows it stores the
codes and then the output tile; at every later column tile it reads the codes stored before. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the points ≡ 0 (mod 10) — by arithmetic of the point. -/
theorem hcond0_0 : ∀ t : Fin cfg0.N, cond0_0 (grid0.coords t) ↔ t.val % 10 = 0 :=
  (fun t => by
    have ht : t.val < 20 := Nat.lt_of_lt_of_eq t.isLt N_0
    have e0 : (grid0.coords t 0).val = t.val / 10 % 2 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2560 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x2560 .fp8e4m3 := win0_6.stage (cfg0.slots t 6)
abbrev hs0_6 (t : Fin cfg0.N) : (ms0_6 t).IsWhole := hstage0_6 ((cfg0.slots t 6).cast nbuf0_6)

/-! ## What the body stores -/

/-- The scale the body reads: the single element of its first operand. -/
abbrev scaleOf (x0 : Vec F S1 .f32) : Elt F .f32 := x0 (ix1 0)

/-- The codes the body stores for a block of rows: the block divided by the scale, clipped and narrowed. -/
abbrev codesOf (x0 : Vec F S1 .f32) (x1 : Vec F S1536x2560 .bf16) : Vec F S1536x2560 .fp8e4m3 :=
  k0_pay1 (scaleOf x0) x1

/-- The output tile the body stores from codes `q`, a block of weights, of weight scales and of biases. -/
abbrev tileOf (x0 : Vec F S1 .f32) (q : Vec F S1536x2560 .fp8e4m3) (x2 : Vec F S512x2560 .fp8e4m3)
    (x3 : Vec F S1x512 .f32) (x4 : Vec F S1x512 .bf16) : Vec F S1536x512 .bf16 :=
  k0_pay2 (scaleOf x0) q x2 x3 x4

/-- A whole memref holding contents that read as `x`, loaded at its own sizes, gives `x`. -/
theorem load_whole {sp : Space} {s : Shape} {e : EltTy} (M : Memref sig .tc sp s e) (h : M.IsWhole) {off : Fin s.rank → ℕ}
    (inb : ∀ a, off a + s.size a ≤ s.size a) (x : s.Idx → Elt F e) :
    View.readAt (Elt F) M.view (Rect.unit off s.size inb).toLoadRect (h.unread x) = x := by
  rw [View.readAt_full, h.read_unread]

/-- The first index of a shape of one element is its index 0. -/
theorem scale_first (x0 : Vec F S1 .f32) (h) : x0 (Shape.Idx.first (s := S1) h) = scaleOf x0 := by
  exact congrArg x0 (funext fun a => by fin_cases a; rfl)

/-! ## The two runs of the body -/

set_option maxHeartbeats 1000000 in
/-- The body at the first column tile: it leaves its inputs as they were, the codes of its block of rows in the last
    window and the tile computed from those codes in the window before. -/
theorem run_first (c : Dev nD) (i : grid0.Coords) (arg2 : Memref sig .tc .smem S1 .f32) (harg2 : arg2.IsWhole) (arg3 : Memref sig .tc .vmem S1536x2560 .bf16) (harg3 : arg3.IsWhole) (arg4 : Memref sig .tc .vmem S512x2560 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S1536x512 .bf16) (harg7 : arg7.IsWhole) (arg8 : Memref sig .tc .vmem S1536x2560 .fp8e4m3) (harg8 : arg8.IsWhole) (hc0 : cond0_0 i)
    (x0 : Vec F S1 .f32) (x1 : Vec F S1536x2560 .bf16) (x2 : Vec F S512x2560 .fp8e4m3) (x3 : Vec F S1x512 .f32) (x4 : Vec F S1x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tileOf x0 (codesOf x0 x1) x2 x3 x4) ∗ owns (c : Thread nD τ) arg8 fullShare (codesOf x0 x1)) -∗ K ⟨⟩))
      ⊢ wp frame (wpE (defs₀ (F := F)) Variants.none c none) E (cc0_fp8_linear i arg2 harg2 arg3 harg3 arg4 harg4 arg5 harg5 arg6 harg6 arg7 harg7 arg8 harg8) K := by
  simp only [cc0_fp8_linear_eq_skeleton]; unfold cc0_fp8_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_full]
    unfold run_first.sl.r run_first.sl.v4 run_first.sl.H6_1 run_first.sl.r
    rw [View.readCov_full, load_whole arg2 harg2, load_whole arg3 harg3, load_whole arg4 harg4, load_whole arg5 harg5,
      load_whole arg6 harg6, scale_first x0]
  iexists _; isplitr; swap; · iexact H6
  ipureintro
  unfold run_first.sl.H6_1
  rw [View.read_writes_full]
  unfold run_first.sl.r
  rw [load_whole arg2 harg2, load_whole arg3 harg3, scale_first x0]

set_option maxHeartbeats 1000000 in
/-- The body at a later column tile: the last window holds codes `x6`, which stay, and the tile is computed from them. -/
theorem run_later (c : Dev nD) (i : grid0.Coords) (arg2 : Memref sig .tc .smem S1 .f32) (harg2 : arg2.IsWhole) (arg3 : Memref sig .tc .vmem S1536x2560 .bf16) (harg3 : arg3.IsWhole) (arg4 : Memref sig .tc .vmem S512x2560 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S1536x512 .bf16) (harg7 : arg7.IsWhole) (arg8 : Memref sig .tc .vmem S1536x2560 .fp8e4m3) (harg8 : arg8.IsWhole) (hc0 : ¬cond0_0 i)
    (x0 : Vec F S1 .f32) (x1 : Vec F S1536x2560 .bf16) (x2 : Vec F S512x2560 .fp8e4m3) (x3 : Vec F S1x512 .f32) (x4 : Vec F S1x512 .bf16) (x6 : Vec F S1536x2560 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tileOf x0 x6 x2 x3 x4) ∗ owns (c : Thread nD τ) arg8 fullShare x6) -∗ K ⟨⟩))
      ⊢ wp frame (wpE (defs₀ (F := F)) Variants.none c none) E (cc0_fp8_linear i arg2 harg2 arg3 harg3 arg4 harg4 arg5 harg5 arg6 harg6 arg7 harg7 arg8 harg8) K := by
  simp only [cc0_fp8_linear_eq_skeleton]; unfold cc0_fp8_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_full]
    unfold run_later.sl.r
    rw [load_whole arg2 harg2, load_whole arg8 harg8, load_whole arg4 harg4, load_whole arg5 harg5,
      load_whole arg6 harg6, scale_first x0]
  iexists _; isplitr; · ipureintro; exact harg8.read_unread _
  iexact H6

end Cert.Kernel.Hand

end
-- ==== Proof.KernelRun.lean ====
module

public import proofs.«01_k».proof.Proof.KernelBody
public import Idealize.ShloMosaic.Lib.Claim

@[expose] public section

set_option maxRecDepth 16384

noncomputable section

/-! The run of the kernel with what it leaves in its two outputs named: every tile of the output, and the
codes of each block of rows, stored at the block's first column tile and kept until the block's last. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the outputs are idle -/

/-- The output tile is stored at every point. -/
theorem liveAt0_5 : ∀ t : Fin cfg0.N, cfg0.idle 5 (grid0.coords t) = false := fun _ => rfl

/-- At the first column tile of a block of rows the codes are stored. -/
theorem liveAt0_6 (t : Fin cfg0.N) (h : t.val % 10 = 0) : cfg0.idle 6 (grid0.coords t) = false := by
  have hc : k0_cond1 (grid0.coords t) = 1#1 := (hcond0_0 t).mpr h
  show (!(k0_cond1 (grid0.coords t) == 1#1)) = false
  rw [hc]; rfl

/-- At a later column tile the codes are left as they are. -/
theorem idleAt0_6 (t : Fin cfg0.N) (h : t.val % 10 ≠ 0) : cfg0.idle 6 (grid0.coords t) = true := by
  have hc : ¬ k0_cond1 (grid0.coords t) = 1#1 := fun hc => h ((hcond0_0 t).mp hc)
  show (!(k0_cond1 (grid0.coords t) == 1#1)) = true
  rw [beq_eq_false_iff_ne.mpr hc]; rfl

/-! ## What the outputs hold -/

/-- The codes of the block of rows of point `t`. -/
def codes (c : Dev nD) (t : Fin cfg0.N) : Vec F S1536x2560 .fp8e4m3 := codesOf (iblk m c 0 t) (iblk m c 1 t)

/-- The output tile of point `t`. -/
def tile (c : Dev nD) (t : Fin cfg0.N) : Vec F S1536x512 .bf16 :=
  tileOf (iblk m c 0 t) (codes m c t) (iblk m c 2 t) (iblk m c 3 t) (iblk m c 4 t)

/-- The proof data of the pipeline on core `c`: the arrays as the region finds them; after the body at point `t` each
    input's buffer at its block, the tile's at `tile` and the codes' at `codes`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile m c t
    | ⟨6, _⟩ => codes m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tile m c t := by dsimp only [dats]
theorem after0_6 (c : Dev nD) (t : Fin cfg0.N) : (dats m 0 c).after 6 t = codes m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The codes' buffer at the later column tiles -/

/-- The point before `t`. -/
abbrev prev (t : Fin cfg0.N) : Fin cfg0.N := ⟨t.val - 1, Nat.lt_of_le_of_lt (Nat.sub_le _ _) t.isLt⟩

/-- At a point where the scale's window is not fetched, its block is the block of the point before. -/
theorem iblk0_prev (c : Dev nD) (t : Fin cfg0.N) (h : t.val % 10 ≠ 0) : iblk m c 0 t = iblk m c 0 (prev t) := by
  have hf : (cfg0.win 0).fetch t = false := Bool.eq_false_iff.mpr fun hf => by have := (fetch0_0 t).mp hf; omega
  refine (before0_0 m c t (iblk m c 0 (prev t))).symm.trans (((dats m 0 c).before_unfetched_in 0 rfl t hf (fun _ => rfl) _).trans ?_)
  unfold Dat.kept
  rw [after0_0]
  exact (cfg0.win 0).fill_cut _ _

/-- At a later column tile the block of rows is the block of the point before. -/
theorem iblk1_prev (c : Dev nD) (t : Fin cfg0.N) (h : t.val % 10 ≠ 0) : iblk m c 1 t = iblk m c 1 (prev t) := by
  have hf : (cfg0.win 1).fetch t = false := Bool.eq_false_iff.mpr fun hf => by have := (fetch0_1 t).mp hf; omega
  refine (before0_1 m c t (iblk m c 1 (prev t))).symm.trans (((dats m 0 c).before_unfetched_in 1 rfl t hf (fun _ => rfl) _).trans ?_)
  unfold Dat.kept
  rw [after0_1]
  exact (cfg0.win 1).fill_cut _ _

/-- At a later column tile the codes are those of the point before. -/
theorem codes_prev (c : Dev nD) (t : Fin cfg0.N) (h : t.val % 10 ≠ 0) : codes m c t = codes m c (prev t) := by
  unfold codes; rw [iblk0_prev m c t h, iblk1_prev m c t h]

/-- At a later column tile the codes' buffer holds the codes of the point's block of rows. -/
theorem before0_6 (c : Dev nD) (d) : ∀ (n : ℕ) (hn : n < cfg0.N), n % 10 ≠ 0 →
    (dats m 0 c).before 6 ⟨n, hn⟩ d = codes m c ⟨n, hn⟩ := by
  intro n
  induction n with
  | zero => intro hn h; exact absurd rfl h
  | succ n ih =>
    intro hn h
    have hf : (cfg0.win 6).fetch ⟨n + 1, hn⟩ = false := (cfg0.win 6).fetch_out rfl _
    have hfl : (cfg0.win 6).flush (prev ⟨n + 1, hn⟩) = false := Bool.eq_false_iff.mpr fun hf => by
      have := (flush0_6 _).mp hf; simp only [prev] at this; omega
    rw [(dats m 0 c).before_of_pos 6 ⟨n + 1, hn⟩ (Nat.succ_ne_zero n) hf d, hfl, if_neg Bool.false_ne_true,
      codes_prev m c ⟨n + 1, hn⟩ h]
    unfold Dat.left
    by_cases h0 : n % 10 = 0
    · rw [liveAt0_6 (prev ⟨n + 1, hn⟩) h0]
      unfold Dat.kept
      rw [after0_6]
      exact (cfg0.win 6).fill_cut _ _
    · rw [idleAt0_6 (prev ⟨n + 1, hn⟩) h0]
      exact ih _ h0

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point, from what its buffers hold to what it leaves there: `run_first` at a first column tile,
    `run_later` at a later one, where the codes' buffer holds the codes of the block of rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 20 := lt_of_lt_of_eq t.isLt (show cfg0.N = 20 from N_0)
  by_cases h0 : t.val % 10 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h0], after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    simp only [before0_6 m c _ t.val t.isLt h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun h => h0 ((hcond0_0 t).mp h)) (iblk m c 0 t) (iblk m c 1 t) (iblk m c 2 t) (iblk m c 3 t) (iblk m c 4 t) (codes m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    by_cases h9 : t.val % 10 = 9
    · rw [show (dats m 0 c).leavesExact 6 t = owns (c : Thread nD τ) (ms0_6 t) fullShare ((dats m 0 c).after 6 t) from by
        unfold Dat.leavesExact; rw [idleAt0_6 t h0, (flush0_6 t).mpr h9], after0_6]
      iexact H6
    · rw [(dats m 0 c).leavesExact_idle 6 t (idleAt0_6 t h0) (Bool.eq_false_iff.mpr fun hf => h9 ((flush0_6 t).mp hf))]
      simp only [before0_6 m c _ t.val t.isLt h0]
      iexists (codes m c t)
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The run of @main: it ends with every array of the pipeline at the contents the proof data name, the buffers the host
    operations after it write at what those make of them, and every semaphore counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim of the kernel, at any element types: @main terminates, its argument arrays end unchanged and
    every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow
public import Idealize.ShloMosaic.Lib.Pointwise

@[expose] public section

set_option maxRecDepth 16384

noncomputable section

/-! The kernel body run once at each of its two cases: at the first column tile of a block of rows it stores the
codes and then the output tile; at every later column tile it reads the codes stored before. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the points ≡ 0 (mod 10) — by arithmetic of the point. -/
theorem hcond0_0 : ∀ t : Fin cfg0.N, cond0_0 (grid0.coords t) ↔ t.val % 10 = 0 :=
  (fun t => by
    have ht : t.val < 20 := Nat.lt_of_lt_of_eq t.isLt N_0
    have e0 : (grid0.coords t 0).val = t.val / 10 % 2 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x2560 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2560 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x2560 .fp8e4m3 := win0_6.stage (cfg0.slots t 6)
abbrev hs0_6 (t : Fin cfg0.N) : (ms0_6 t).IsWhole := hstage0_6 ((cfg0.slots t 6).cast nbuf0_6)

/-! ## What the body stores -/

/-- The scale the body reads: the single element of its first operand. -/
abbrev scaleOf (x0 : Vec F S1 .f32) : Elt F .f32 := x0 (ix1 0)

/-- The codes the body stores for a block of rows: the block divided by the scale, clipped and narrowed. -/
abbrev codesOf (x0 : Vec F S1 .f32) (x1 : Vec F S1536x2560 .bf16) : Vec F S1536x2560 .fp8e4m3 :=
  k0_pay1 (scaleOf x0) x1

/-- The output tile the body stores from codes `q`, a block of weights, of weight scales and of biases. -/
abbrev tileOf (x0 : Vec F S1 .f32) (q : Vec F S1536x2560 .fp8e4m3) (x2 : Vec F S512x2560 .fp8e4m3)
    (x3 : Vec F S1x512 .f32) (x4 : Vec F S1x512 .bf16) : Vec F S1536x512 .bf16 :=
  k0_pay2 (scaleOf x0) q x2 x3 x4

/-- A whole memref holding contents that read as `x`, loaded at its own sizes, gives `x`. -/
theorem load_whole {sp : Space} {s : Shape} {e : EltTy} (M : Memref sig .tc sp s e) (h : M.IsWhole) {off : Fin s.rank → ℕ}
    (inb : ∀ a, off a + s.size a ≤ s.size a) (x : s.Idx → Elt F e) :
    View.readAt (Elt F) M.view (Rect.unit off s.size inb).toLoadRect (h.unread x) = x := by
  rw [View.readAt_full, h.read_unread]

/-- The first index of a shape of one element is its index 0. -/
theorem scale_first (x0 : Vec F S1 .f32) (h) : x0 (Shape.Idx.first (s := S1) h) = scaleOf x0 := by
  exact congrArg x0 (funext fun a => by fin_cases a; rfl)

/-! ## The two runs of the body -/

set_option maxHeartbeats 1000000 in
/-- The body at the first column tile: it leaves its inputs as they were, the codes of its block of rows in the last
    window and the tile computed from those codes in the window before. -/
theorem run_first (c : Dev nD) (i : grid0.Coords) (arg2 : Memref sig .tc .smem S1 .f32) (harg2 : arg2.IsWhole) (arg3 : Memref sig .tc .vmem S1536x2560 .bf16) (harg3 : arg3.IsWhole) (arg4 : Memref sig .tc .vmem S512x2560 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S1536x512 .bf16) (harg7 : arg7.IsWhole) (arg8 : Memref sig .tc .vmem S1536x2560 .fp8e4m3) (harg8 : arg8.IsWhole) (hc0 : cond0_0 i)
    (x0 : Vec F S1 .f32) (x1 : Vec F S1536x2560 .bf16) (x2 : Vec F S512x2560 .fp8e4m3) (x3 : Vec F S1x512 .f32) (x4 : Vec F S1x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tileOf x0 (codesOf x0 x1) x2 x3 x4) ∗ owns (c : Thread nD τ) arg8 fullShare (codesOf x0 x1)) -∗ K ⟨⟩))
      ⊢ wp frame (wpE (defs₀ (F := F)) Variants.none c none) E (cc0_fp8_linear i arg2 harg2 arg3 harg3 arg4 harg4 arg5 harg5 arg6 harg6 arg7 harg7 arg8 harg8) K := by
  simp only [cc0_fp8_linear_eq_skeleton]; unfold cc0_fp8_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_full]
    unfold run_first.sl.r run_first.sl.v4 run_first.sl.H6_1 run_first.sl.r
    rw [View.readCov_full, load_whole arg2 harg2, load_whole arg3 harg3, load_whole arg4 harg4, load_whole arg5 harg5,
      load_whole arg6 harg6, scale_first x0]
  iexists _; isplitr; swap; · iexact H6
  ipureintro
  unfold run_first.sl.H6_1
  rw [View.read_writes_full]
  unfold run_first.sl.r
  rw [load_whole arg2 harg2, load_whole arg3 harg3, scale_first x0]

set_option maxHeartbeats 1000000 in
/-- The body at a later column tile: the last window holds codes `x6`, which stay, and the tile is computed from them. -/
theorem run_later (c : Dev nD) (i : grid0.Coords) (arg2 : Memref sig .tc .smem S1 .f32) (harg2 : arg2.IsWhole) (arg3 : Memref sig .tc .vmem S1536x2560 .bf16) (harg3 : arg3.IsWhole) (arg4 : Memref sig .tc .vmem S512x2560 .fp8e4m3) (harg4 : arg4.IsWhole) (arg5 : Memref sig .tc .vmem S1x512 .f32) (harg5 : arg5.IsWhole) (arg6 : Memref sig .tc .vmem S1x512 .bf16) (harg6 : arg6.IsWhole) (arg7 : Memref sig .tc .vmem S1536x512 .bf16) (harg7 : arg7.IsWhole) (arg8 : Memref sig .tc .vmem S1536x2560 .fp8e4m3) (harg8 : arg8.IsWhole) (hc0 : ¬cond0_0 i)
    (x0 : Vec F S1 .f32) (x1 : Vec F S1536x2560 .bf16) (x2 : Vec F S512x2560 .fp8e4m3) (x3 : Vec F S1x512 .f32) (x4 : Vec F S1x512 .bf16) (x6 : Vec F S1536x2560 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (tileOf x0 x6 x2 x3 x4) ∗ owns (c : Thread nD τ) arg8 fullShare x6) -∗ K ⟨⟩))
      ⊢ wp frame (wpE (defs₀ (F := F)) Variants.none c none) E (cc0_fp8_linear i arg2 harg2 arg3 harg3 arg4 harg4 arg5 harg5 arg6 harg6 arg7 harg7 arg8 harg8) K := by
  simp only [cc0_fp8_linear_eq_skeleton]; unfold cc0_fp8_linear_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [View.read_writes_full]
    unfold run_later.sl.r
    rw [load_whole arg2 harg2, load_whole arg8 harg8, load_whole arg4 harg4, load_whole arg5 harg5,
      load_whole arg6 harg6, scale_first x0]
  iexists _; isplitr; · ipureintro; exact harg8.read_unread _
  iexact H6

end Cert.KernelIdeal.Hand

end
-- ==== Proof.Run.lean ====
module

public import proofs.«01_k».proof.Proof.Body
public import Idealize.ShloMosaic.Lib.Claim

@[expose] public section

set_option maxRecDepth 16384

noncomputable section

/-! The run of the idealized kernel with what it leaves in its two outputs named: every tile of the output, and the
codes of each block of rows, stored at the block's first column tile and kept until the block's last. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the outputs are idle -/

/-- The output tile is stored at every point. -/
theorem liveAt0_5 : ∀ t : Fin cfg0.N, cfg0.idle 5 (grid0.coords t) = false := fun _ => rfl

/-- At the first column tile of a block of rows the codes are stored. -/
theorem liveAt0_6 (t : Fin cfg0.N) (h : t.val % 10 = 0) : cfg0.idle 6 (grid0.coords t) = false := by
  have hc : k0_cond1 (grid0.coords t) = 1#1 := (hcond0_0 t).mpr h
  show (!(k0_cond1 (grid0.coords t) == 1#1)) = false
  rw [hc]; rfl

/-- At a later column tile the codes are left as they are. -/
theorem idleAt0_6 (t : Fin cfg0.N) (h : t.val % 10 ≠ 0) : cfg0.idle 6 (grid0.coords t) = true := by
  have hc : ¬ k0_cond1 (grid0.coords t) = 1#1 := fun hc => h ((hcond0_0 t).mp hc)
  show (!(k0_cond1 (grid0.coords t) == 1#1)) = true
  rw [beq_eq_false_iff_ne.mpr hc]; rfl

/-! ## What the outputs hold -/

/-- The codes of the block of rows of point `t`. -/
def codes (c : Dev nD) (t : Fin cfg0.N) : Vec F S1536x2560 .fp8e4m3 := codesOf (iblk m c 0 t) (iblk m c 1 t)

/-- The output tile of point `t`. -/
def tile (c : Dev nD) (t : Fin cfg0.N) : Vec F S1536x512 .bf16 :=
  tileOf (iblk m c 0 t) (codes m c t) (iblk m c 2 t) (iblk m c 3 t) (iblk m c 4 t)

/-- The proof data of the pipeline on core `c`: the arrays as the region finds them; after the body at point `t` each
    input's buffer at its block, the tile's at `tile` and the codes' at `codes`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile m c t
    | ⟨6, _⟩ => codes m c t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tile m c t := by dsimp only [dats]
theorem after0_6 (c : Dev nD) (t : Fin cfg0.N) : (dats m 0 c).after 6 t = codes m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The codes' buffer at the later column tiles -/

/-- The point before `t`. -/
abbrev prev (t : Fin cfg0.N) : Fin cfg0.N := ⟨t.val - 1, Nat.lt_of_le_of_lt (Nat.sub_le _ _) t.isLt⟩

/-- At a point where the scale's window is not fetched, its block is the block of the point before. -/
theorem iblk0_prev (c : Dev nD) (t : Fin cfg0.N) (h : t.val % 10 ≠ 0) : iblk m c 0 t = iblk m c 0 (prev t) := by
  have hf : (cfg0.win 0).fetch t = false := Bool.eq_false_iff.mpr fun hf => by have := (fetch0_0 t).mp hf; omega
  refine (before0_0 m c t (iblk m c 0 (prev t))).symm.trans (((dats m 0 c).before_unfetched_in 0 rfl t hf (fun _ => rfl) _).trans ?_)
  unfold Dat.kept
  rw [after0_0]
  exact (cfg0.win 0).fill_cut _ _

/-- At a later column tile the block of rows is the block of the point before. -/
theorem iblk1_prev (c : Dev nD) (t : Fin cfg0.N) (h : t.val % 10 ≠ 0) : iblk m c 1 t = iblk m c 1 (prev t) := by
  have hf : (cfg0.win 1).fetch t = false := Bool.eq_false_iff.mpr fun hf => by have := (fetch0_1 t).mp hf; omega
  refine (before0_1 m c t (iblk m c 1 (prev t))).symm.trans (((dats m 0 c).before_unfetched_in 1 rfl t hf (fun _ => rfl) _).trans ?_)
  unfold Dat.kept
  rw [after0_1]
  exact (cfg0.win 1).fill_cut _ _

/-- At a later column tile the codes are those of the point before. -/
theorem codes_prev (c : Dev nD) (t : Fin cfg0.N) (h : t.val % 10 ≠ 0) : codes m c t = codes m c (prev t) := by
  unfold codes; rw [iblk0_prev m c t h, iblk1_prev m c t h]

/-- At a later column tile the codes' buffer holds the codes of the point's block of rows. -/
theorem before0_6 (c : Dev nD) (d) : ∀ (n : ℕ) (hn : n < cfg0.N), n % 10 ≠ 0 →
    (dats m 0 c).before 6 ⟨n, hn⟩ d = codes m c ⟨n, hn⟩ := by
  intro n
  induction n with
  | zero => intro hn h; exact absurd rfl h
  | succ n ih =>
    intro hn h
    have hf : (cfg0.win 6).fetch ⟨n + 1, hn⟩ = false := (cfg0.win 6).fetch_out rfl _
    have hfl : (cfg0.win 6).flush (prev ⟨n + 1, hn⟩) = false := Bool.eq_false_iff.mpr fun hf => by
      have := (flush0_6 _).mp hf; simp only [prev] at this; omega
    rw [(dats m 0 c).before_of_pos 6 ⟨n + 1, hn⟩ (Nat.succ_ne_zero n) hf d, hfl, if_neg Bool.false_ne_true,
      codes_prev m c ⟨n + 1, hn⟩ h]
    unfold Dat.left
    by_cases h0 : n % 10 = 0
    · rw [liveAt0_6 (prev ⟨n + 1, hn⟩) h0]
      unfold Dat.kept
      rw [after0_6]
      exact (cfg0.win 6).fill_cut _ _
    · rw [idleAt0_6 (prev ⟨n + 1, hn⟩) h0]
      exact ih _ h0

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point, from what its buffers hold to what it leaves there: `run_first` at a first column tile,
    `run_later` at a later one, where the codes' buffer holds the codes of the block of rows. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 20 := lt_of_lt_of_eq t.isLt (show cfg0.N = 20 from N_0)
  by_cases h0 : t.val % 10 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h0], after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    simp only [before0_6 m c _ t.val t.isLt h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun h => h0 ((hcond0_0 t).mp h)) (iblk m c 0 t) (iblk m c 1 t) (iblk m c 2 t) (iblk m c 3 t) (iblk m c 4 t) (codes m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    by_cases h9 : t.val % 10 = 9
    · rw [show (dats m 0 c).leavesExact 6 t = owns (c : Thread nD τ) (ms0_6 t) fullShare ((dats m 0 c).after 6 t) from by
        unfold Dat.leavesExact; rw [idleAt0_6 t h0, (flush0_6 t).mpr h9], after0_6]
      iexact H6
    · rw [(dats m 0 c).leavesExact_idle 6 t (idleAt0_6 t h0) (Bool.eq_false_iff.mpr fun hf => h9 ((flush0_6 t).mp hf))]
      simp only [before0_6 m c _ t.val t.isLt h0]
      iexists (codes m c t)
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The run of @main: it ends with every array of the pipeline at the contents the proof data name, the buffers the host
    operations after it write at what those make of them, and every semaphore counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim of the idealized kernel, at any element types: @main terminates, its argument arrays end unchanged and
    every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Value.lean ====
module

public import proofs.«01_k».proof.Proof.Run
public import proofs.«01_k».proof.Proof.Gen.ReferenceIdeal.Value
public import Idealize.ShloMosaic.Lib.Claim
public import Idealize.ShloMosaic.Lib.Pointwise

@[expose] public section

set_option maxRecDepth 16384

noncomputable section

/-! What the idealized kernel leaves in its two outputs, element by element, in terms of its arguments. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The reference's two formulas, over the arguments -/

/-- The codes as the reference computes them from `x` and the input scale. -/
abbrev refCodes (X : FVec Ideal S2x1536x2560 .bf16) (s : FVec Ideal S_ .f32) : FVec Ideal S2x1536x2560 .fp8e4m3 :=
  Cert.ReferenceIdeal.Gen.k0_pay2 (F := Ideal) (shapeCast S1 s Cert.ReferenceIdeal.Gen.shapeCasts_S_S1) X

/-- The output as the reference computes it from the five arguments. -/
abbrev refOut (X : FVec Ideal S2x1536x2560 .bf16) (W : FVec Ideal S5120x2560 .fp8e4m3) (ws : FVec Ideal S5120 .f32)
    (s : FVec Ideal S_ .f32) (b : FVec Ideal S5120 .bf16) : FVec Ideal S2x1536x5120 .bf16 :=
  Cert.ReferenceIdeal.Gen.k0_pay3 (F := Ideal) (shapeCast S1 s Cert.ReferenceIdeal.Gen.shapeCasts_S_S1) X W ws b

/-- The windows' block indices at every point. -/
theorem idx : ∀ t : Fin cfg0.N, win0_0.index t = ![0] ∧ win0_1.index t = ![t.val / 10, 0] ∧ win0_2.index t = ![t.val % 10, 0]
    ∧ win0_3.index t = ![0, t.val % 10] ∧ win0_4.index t = ![0, t.val % 10] ∧ win0_5.index t = ![t.val / 10, t.val % 10]
    ∧ win0_6.index t = ![t.val / 10, 0] ∧ t.val / 10 < 2 :=
  (by decide +kernel : ∀ t : Fin grid0.N, _)

/-! ## The operands the host reshapes before the launch -/

/-- The scale operand is the input scale. -/
theorem V_v0 (c : Dev nD) (i : S1.Idx) : V m c main_v0 i = m ((c : Thread nD τ).loc main_arg3) ix0 := by
  simp only [V, V0, List.flatten_cons, List.flatten_nil, List.append_nil]
  entry_read
  pointwise

/-- The rows operand is `x` with its two batches of rows laid one after the other. -/
theorem V_v1 (c : Dev nD) (i : S3072x2560.Idx) (a : Fin 2) (b : Fin 1536) (k : Fin 2560)
    (h0 : (i 0).val = a.val * 1536 + b.val) (h1 : (i 1).val = k.val) :
    V m c main_v1 i = m ((c : Thread nD τ).loc main_arg0) (ix3 a b k) := by
  simp only [V, V0, List.flatten_cons, List.flatten_nil, List.append_nil]
  entry_read
  pointwise
  blk_ext

/-- The weight scales' operand. -/
theorem V_v2 (c : Dev nD) (i : S1x5120.Idx) (j : Fin 5120) (h : (i 1).val = j.val) :
    V m c main_v2 i = m ((c : Thread nD τ).loc main_arg2) (ix1 j) := by
  simp only [V, V0, List.flatten_cons, List.flatten_nil, List.append_nil]
  entry_read
  pointwise
  blk_ext

/-- The biases' operand. -/
theorem V_v3 (c : Dev nD) (i : S1x5120.Idx) (j : Fin 5120) (h : (i 1).val = j.val) :
    V m c main_v3 i = m ((c : Thread nD τ).loc main_arg4) (ix1 j) := by
  simp only [V, V0, List.flatten_cons, List.flatten_nil, List.append_nil]
  entry_read
  pointwise
  blk_ext

/-- The codes of point `t` at block index `y`: the reference's at row `y 0` of batch `t / 10`. -/
theorem codes_point (c : Dev nD) (t : Fin cfg0.N) (y : S1536x2560.Idx) :
    codes m c t y = refCodes (m ((c : Thread nD τ).loc main_arg0)) (m ((c : Thread nD τ).loc main_arg3))
      (ix3 (⟨t.val / 10, (idx t).2.2.2.2.2.2.2⟩ : Fin 2) (y 0) (y 1)) := by
  unfold codes
  pointwise [codesOf, scaleOf, refCodes, k0_pay1, Cert.ReferenceIdeal.Gen.k0_pay1, Cert.ReferenceIdeal.Gen.k0_pay2]
  blk_point [iblk, idx t]
  · refine V_v1 m c _ _ _ _ ?_ ?_
    · blk_simp [idx t]
    · blk_simp [idx t]
  · exact V_v0 m c _

/-- The output tile of point `t` at block index `y`: the reference's output at row `y 0` of batch `t / 10`, column `j`
    of the tile's columns. -/
theorem tile_point (c : Dev nD) (t : Fin cfg0.N) (y : S1536x512.Idx) (j : Fin 5120) (hj : j.val = t.val % 10 * 512 + (y 1).val) :
    tile m c t y = refOut (m ((c : Thread nD τ).loc main_arg0)) (m ((c : Thread nD τ).loc main_arg1)) (m ((c : Thread nD τ).loc main_arg2))
      (m ((c : Thread nD τ).loc main_arg3)) (m ((c : Thread nD τ).loc main_arg4))
      (ix3 (⟨t.val / 10, (idx t).2.2.2.2.2.2.2⟩ : Fin 2) (y 0) j) := by
  unfold tile
  pointwise [tileOf, scaleOf, refOut, k0_pay2, Cert.ReferenceIdeal.Gen.k0_pay1, Cert.ReferenceIdeal.Gen.k0_pay3]
  simp only [codes_point]
  blk_point [iblk, V, idx t]
  · exact V_v0 m c _
  · refine V_v2 m c _ _ ?_
    blk_simp [idx t]
    exact hj.symm
  · refine V_v3 m c _ _ ?_
    blk_simp [idx t]
    exact hj.symm

/-! ## The two output arrays after the region -/

/-- The array of codes: row `r` is row `r % 1536` of batch `r / 1536` of the reference's codes. -/
theorem final_codes (c : Dev nD) : (dats m 0 c).arrAt 6 cfg0.N = fun i : S3072x2560.Idx =>
    refCodes (m ((c : Thread nD τ).loc main_arg0)) (m ((c : Thread nD τ).loc main_arg3))
      (ix3 (⟨(i 0).val / 1536, by have := (i 0).isLt; simp at this; omega⟩ : Fin 2) (⟨(i 0).val % 1536, by omega⟩ : Fin 1536) (i 1)) := by
  refine (dats m 0 c).arrAt_eq_of_covers 6 _ (by decide +kernel) fun t hf y => ?_
  blk_simp
  rw [after0_6]
  refine (codes_point m c t y).trans ?_
  blk_ext [idx t]

/-- The output array: row `r` is row `r % 1536` of batch `r / 1536` of the reference's output. -/
theorem final_out (c : Dev nD) : (dats m 0 c).arrAt 5 cfg0.N = fun i : S3072x5120.Idx =>
    refOut (m ((c : Thread nD τ).loc main_arg0)) (m ((c : Thread nD τ).loc main_arg1)) (m ((c : Thread nD τ).loc main_arg2))
      (m ((c : Thread nD τ).loc main_arg3)) (m ((c : Thread nD τ).loc main_arg4))
      (ix3 (⟨(i 0).val / 1536, by have := (i 0).isLt; simp at this; omega⟩ : Fin 2) (⟨(i 0).val % 1536, by omega⟩ : Fin 1536) (i 1)) := by
  refine (dats m 0 c).arrAt_eq_of_covers 5 _ (by decide +kernel) fun t hf y => ?_
  blk_simp
  rw [after0_5]
  refine (tile_point m c t y ((win0_5.blk t).view.emb y 1) ?_).trans ?_
  · blk_simp [idx t]
  · blk_ext [idx t]

/-! ## The results after the host's reshapes -/

/-- Reading a tall array as two batches of rows undoes laying the batches one after the other: the codes' shape. -/
theorem unflat_codes (X : FVec Ideal S2x1536x2560 .fp8e4m3) (A : FVec Ideal S3072x2560 .fp8e4m3)
    (hA : ∀ (a : Fin 2) (b : Fin 1536) (k : Fin 2560) (r : Fin 3072), r.val = a.val * 1536 + b.val → A (ix2 r k) = X (ix3 a b k)) :
    shapeCast S2x1536x2560 A shapeCasts_S3072x2560_S2x1536x2560 = X := by
  funext i
  idx_vars i
  pointwise
  exact hA _ _ _ _ rfl

/-- Reading a tall array as two batches of rows undoes laying the batches one after the other: the outputs' shape. -/
theorem unflat_out (X : FVec Ideal S2x1536x5120 .bf16) (A : FVec Ideal S3072x5120 .bf16)
    (hA : ∀ (a : Fin 2) (b : Fin 1536) (k : Fin 5120) (r : Fin 3072), r.val = a.val * 1536 + b.val → A (ix2 r k) = X (ix3 a b k)) :
    shapeCast S2x1536x5120 A shapeCasts_S3072x5120_S2x1536x5120 = X := by
  funext i
  idx_vars i
  pointwise
  exact hA _ _ _ _ rfl

/-- Row `a * 1536 + b` is row `b` of batch `a`. -/
theorem row_split {K : ℕ} (a : Fin 2) (b : Fin 1536) (r : Fin 3072) (hr : r.val = a.val * 1536 + b.val) (h : r.val / 1536 < 2)
    (h' : r.val % 1536 < 1536) (k : Fin K) : ix3 (⟨r.val / 1536, h⟩ : Fin 2) (⟨r.val % 1536, h'⟩ : Fin 1536) k = ix3 a b k := by
  have e0 : (⟨r.val / 1536, h⟩ : Fin 2) = a := Fin.ext (by have := b.isLt; show r.val / 1536 = a.val; omega)
  have e1 : (⟨r.val % 1536, h'⟩ : Fin 1536) = b := Fin.ext (by have := b.isLt; show r.val % 1536 = b.val; omega)
  rw [e0, e1]

/-- The second result: the reference's codes. -/
theorem result_codes (c : Dev nD) : Pipeline.afterTail₀ cfgs (dats m) 0 (V0 m) [hostOps1] c main_v6
    = refCodes (m ((c : Thread nD τ).loc main_arg0)) (m ((c : Thread nD τ).loc main_arg3)) := by
  have h : Pipeline.afterTail₀ cfgs (dats m) 0 (V0 m) [hostOps1] c main_v6
      = shapeCast S2x1536x2560 ((dats m 0 c).arrAt 6 cfg0.N) shapeCasts_S3072x2560_S2x1536x2560 := by
    unfold Pipeline.afterTail₀
    simp only [List.flatten_cons, List.flatten_nil, List.append_nil]
    after_results
    exact congrArg (fun A => shapeCast S2x1536x2560 A shapeCasts_S3072x2560_S2x1536x2560)
      (Pipeline.withArrays_arr spec0 launch0.win.arr_inj c (V0 m c) (fun w => (dats m 0 c).arrAt w (cfgs 0).N) 6)
  rw [h, final_codes]
  exact unflat_codes _ _ fun a b k r hr => congrArg _ (row_split a b r hr _ _ k)

/-- The first result: the reference's out. -/
theorem result_out (c : Dev nD) : Pipeline.afterTail₀ cfgs (dats m) 0 (V0 m) [hostOps1] c main_v5
    = refOut (m ((c : Thread nD τ).loc main_arg0)) (m ((c : Thread nD τ).loc main_arg1)) (m ((c : Thread nD τ).loc main_arg2))
      (m ((c : Thread nD τ).loc main_arg3)) (m ((c : Thread nD τ).loc main_arg4)) := by
  have h : Pipeline.afterTail₀ cfgs (dats m) 0 (V0 m) [hostOps1] c main_v5
      = shapeCast S2x1536x5120 ((dats m 0 c).arrAt 5 cfg0.N) shapeCasts_S3072x5120_S2x1536x5120 := by
    unfold Pipeline.afterTail₀
    simp only [List.flatten_cons, List.flatten_nil, List.append_nil]
    after_results
    exact congrArg (fun A => shapeCast S2x1536x5120 A shapeCasts_S3072x5120_S2x1536x5120)
      (Pipeline.withArrays_arr spec0 launch0.win.arr_inj c (V0 m c) (fun w => (dats m 0 c).arrAt w (cfgs 0).N) 5)
  rw [h, final_out]
  exact unflat_out _ _ fun a b k r hr => congrArg _ (row_split a b r hr _ _ k)

/-- The idealized kernel's run ends with the reference's output and codes in its two computed results. -/
theorem run_results (ρ : Dev nD → PrngReg) : θ_run (defs (F := Ideal)) (onTc (τ := τ) (main (F := Ideal))) ⟨m, fun _ => 0, ρ⟩ (fun r => ∀ c : Dev nD,
      r.2.mem ((c.tc : Thread nD τ).loc main_v5) = refOut (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_v6) = refCodes (m ((c : Thread nD τ).loc main_arg0)) (m ((c : Thread nD τ).loc main_arg3))) :=
  (θ_run defs _ _).mono (fun _ h c =>
    ⟨((h c).2 main_v5 (Pipeline.mem_restRefs_of main_v5 (by decide) (by decide))).trans (result_out m c),
      ((h c).2 main_v6 (Pipeline.mem_restRefs_of main_v6 (by decide) (by decide))).trans (result_codes m c)⟩) (run_main m ρ)

end Cert.KernelIdeal.Hand

end
-- ==== Proof.RefValue.lean ====
module

public import proofs.«01_k».proof.Proof.Gen.ReferenceIdeal.Value
public import Idealize.ShloMosaic.Lib.Pipeline.ValueKit
public import Idealize.ShloMosaic.Lib.Claim
public import Idealize.ShloMosaic.Lib.Pointwise

@[expose] public section

set_option maxRecDepth 16384

noncomputable section

/-! What the reference leaves in its two outputs: its two formulas over the arguments. -/

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index at the single point. -/
theorem idx : ∀ t : Fin cfg0.N, win0_0.index t = ![0, 0, 0] ∧ win0_1.index t = ![0, 0] ∧ win0_2.index t = ![0]
    ∧ win0_3.index t = ![0] ∧ win0_4.index t = ![0] ∧ win0_5.index t = ![0, 0, 0] ∧ win0_6.index t = ![0, 0, 0] :=
  (by decide +kernel : ∀ t : Fin grid0.N, _)

/-- The scale operand is the input scale as an array of one element. -/
theorem V_v0 (c : Dev nD) : V m c main_v0 = shapeCast S1 (m ((c : Thread nD τ).loc main_arg3)) shapeCasts_S_S1 := by
  entry_read
  rfl

/-- The rows' block is the whole array `x`. -/
theorem iblk_0 (c : Dev nD) (t : Fin cfg0.N) : iblk m c 0 t = m ((c : Thread nD τ).loc main_arg0) := by
  blk_ext! [iblk, V, idx t]

/-- The weights' block is the whole weight array. -/
theorem iblk_1 (c : Dev nD) (t : Fin cfg0.N) : iblk m c 1 t = m ((c : Thread nD τ).loc main_arg1) := by
  blk_ext! [iblk, V, idx t]

/-- The weight scales' block is the whole array. -/
theorem iblk_2 (c : Dev nD) (t : Fin cfg0.N) : iblk m c 2 t = m ((c : Thread nD τ).loc main_arg2) := by
  blk_ext! [iblk, V, idx t]

/-- The biases' block is the whole array. -/
theorem iblk_4 (c : Dev nD) (t : Fin cfg0.N) : iblk m c 4 t = m ((c : Thread nD τ).loc main_arg4) := by
  blk_ext! [iblk, V, idx t]

/-- The scale's block is its whole operand. -/
theorem iblk_3 (c : Dev nD) (t : Fin cfg0.N) : iblk m c 3 t = V m c main_v0 := by
  blk_ext! [iblk, idx t]

/-- The codes array after the run. -/
theorem final_codes (c : Dev nD) : (dats m 0 c).arrAt 6 cfg0.N
    = k0_pay2 (F := Ideal) (shapeCast S1 (m ((c : Thread nD τ).loc main_arg3)) shapeCasts_S_S1) (m ((c : Thread nD τ).loc main_arg0)) := by
  refine (dats m 0 c).arrAt_eq_of_after_last 6 t0_0 (by decide +kernel) _ fun j => ?_
  blk_simp
  rw [after0_6]
  frame_out
  rw [iblk_0, iblk_3, V_v0]

/-- The output array after the run. -/
theorem final_out (c : Dev nD) : (dats m 0 c).arrAt 5 cfg0.N
    = k0_pay3 (F := Ideal) (shapeCast S1 (m ((c : Thread nD τ).loc main_arg3)) shapeCasts_S_S1) (m ((c : Thread nD τ).loc main_arg0))
      (m ((c : Thread nD τ).loc main_arg1)) (m ((c : Thread nD τ).loc main_arg2)) (m ((c : Thread nD τ).loc main_arg4)) := by
  refine (dats m 0 c).arrAt_eq_of_after_last 5 t0_0 (by decide +kernel) _ fun j => ?_
  blk_simp
  rw [after0_5]
  frame_out
  rw [iblk_0, iblk_1, iblk_2, iblk_3, iblk_4, V_v0]

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelRun
public import proofs.«01_k».proof.Proof.Run
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The idealized kernel and the reference, from equal arguments, end with equal results: both hold the reference's
    output and codes of the arguments, and the input scale unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Hand.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.Hand.refCodes (m ((c.tc : Thread Cert.KernelIdeal.nD Cert.KernelIdeal.τ).loc Cert.KernelIdeal.main_arg0)) (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg3),
    θ_run_mono (θ_run_and (Cert.KernelIdeal.Hand.run_results m g) (Cert.KernelIdeal.Hand.unchanged m g)) fun r h c => ?_,
    θ_run_mono (Cert.ReferenceIdeal.Value.run_blocks m' g') fun r h c => ?_⟩
  · obtain ⟨h5, h6⟩ := h.1 c
    obtain ⟨a0, a1, a2, a3, a4⟩ := h.2 c
    exact ⟨h5, h6, a3, a0, a1, a2, a3, a4⟩
  · obtain ⟨h5, h6, a0, a1, a2, a3, a4⟩ := h c
    obtain ⟨e0, e1, e2, e3, e4⟩ := hagree c
    refine ⟨h5.trans ((Cert.ReferenceIdeal.Hand.final_out m' c).trans ?_), h6.trans ((Cert.ReferenceIdeal.Hand.final_codes m' c).trans ?_),
      a3.trans e3, a0, a1, a2, a3, a4⟩
    · rw [e0, e1, e2, e3, e4]
    · rw [e0, e3]

/-- The three programs run to completion leaving their arguments unchanged; the idealized kernel is the kernel's own
    text; and the idealized kernel's results are the reference's. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  trivial, algebraic⟩

end Cert.Proof

end
